-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x255x64x64 : Shape := ⟨4, ![16, 255, 64, 64]⟩
abbrev S16x12288x85 : Shape := ⟨3, ![16, 12288, 85]⟩
abbrev S1x255x64x64 : Shape := ⟨4, ![1, 255, 64, 64]⟩
abbrev S1x12288x85 : Shape := ⟨3, ![1, 12288, 85]⟩
abbrev S255x64x64 : Shape := ⟨3, ![255, 64, 64]⟩
abbrev S1x64x64 : Shape := ⟨3, ![1, 64, 64]⟩
abbrev S81x64x64 : Shape := ⟨3, ![81, 64, 64]⟩
abbrev S3x85x64x64 : Shape := ⟨4, ![3, 85, 64, 64]⟩
abbrev S3x64x64x85 : Shape := ⟨4, ![3, 64, 64, 85]⟩
abbrev S12288x85 : Shape := ⟨2, ![12288, 85]⟩

abbrev nBuf : Space → Nat
  | .hbm => 2
  | .vmem => 4
  | .smem => 0
  | _ => 0

abbrev bufTy : (tb : Table) → Fin (tcTables nBuf tb) → BufTy
  | .hbm, ⟨0, _⟩ => ⟨S16x255x64x64, .f32⟩
  | .hbm, ⟨1, _⟩ => ⟨S16x12288x85, .f32⟩
  | .local _ .vmem, ⟨0, _⟩ => ⟨S1x255x64x64, .f32⟩
  | .local _ .vmem, ⟨1, _⟩ => ⟨S1x255x64x64, .f32⟩
  | .local _ .vmem, ⟨2, _⟩ => ⟨S1x12288x85, .f32⟩
  | .local _ .vmem, ⟨3, _⟩ => ⟨S1x12288x85, .f32⟩
  | _, _ => ⟨S16x255x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x255x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x12288x85 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16x255x64x64 : Shape := ⟨4, ![16, 255, 64, 64]⟩
abbrev S3x2 : Shape := ⟨2, ![3, 2]⟩
abbrev S2 : Shape := ⟨1, ![2]⟩
abbrev S4 : Shape := ⟨1, ![4]⟩
abbrev S1x2 : Shape := ⟨2, ![1, 2]⟩
abbrev S16x3x85x64x64 : Shape := ⟨5, ![16, 3, 85, 64, 64]⟩
abbrev S16x3x64x64x85 : Shape := ⟨5, ![16, 3, 64, 64, 85]⟩
abbrev S16x3x64x64x1 : Shape := ⟨5, ![16, 3, 64, 64, 1]⟩
abbrev S16x3x64x64 : Shape := ⟨4, ![16, 3, 64, 64]⟩
abbrev S_ : Shape := ⟨0, ![]⟩
abbrev S16x3x64x64x80 : Shape := ⟨5, ![16, 3, 64, 64, 80]⟩
abbrev S64 : Shape := ⟨1, ![64]⟩
abbrev S1x1x1x64 : Shape := ⟨4, ![1, 1, 1, 64]⟩
abbrev S1x1x64x1 : Shape := ⟨4, ![1, 1, 64, 1]⟩
abbrev S3x1 : Shape := ⟨2, ![3, 1]⟩
abbrev S3 : Shape := ⟨1, ![3]⟩
abbrev S1x3x1x1 : Shape := ⟨4, ![1, 3, 1, 1]⟩
abbrev S16x3x64x64x4 : Shape := ⟨5, ![16, 3, 64, 64, 4]⟩
abbrev S16x12288x4 : Shape := ⟨3, ![16, 12288, 4]⟩
abbrev S1x1x4 : Shape := ⟨3, ![1, 1, 4]⟩
abbrev S16x12288x1 : Shape := ⟨3, ![16, 12288, 1]⟩
abbrev S16x12288x80 : Shape := ⟨3, ![16, 12288, 80]⟩
abbrev S16x12288x85 : Shape := ⟨3, ![16, 12288, 85]⟩

abbrev nBuf : Space → Nat
  | .hbm => 84
  | .vmem => 0
  | .smem => 0
  | _ => 0

abbrev bufTy : (tb : Table) → Fin (tcTables nBuf tb) → BufTy
  | .hbm, ⟨0, _⟩ => ⟨S16x255x64x64, .f32⟩
  | .hbm, ⟨1, _⟩ => ⟨S3x2, .f32⟩
  | .hbm, ⟨2, _⟩ => ⟨S2, .f32⟩
  | .hbm, ⟨3, _⟩ => ⟨S4, .f32⟩
  | .hbm, ⟨4, _⟩ => ⟨S1x2, .f32⟩
  | .hbm, ⟨5, _⟩ => ⟨S3x2, .f32⟩
  | .hbm, ⟨6, _⟩ => ⟨S3x2, .f32⟩
  | .hbm, ⟨7, _⟩ => ⟨S16x3x85x64x64, .f32⟩
  | .hbm, ⟨8, _⟩ => ⟨S16x3x64x64x85, .f32⟩
  | .hbm, ⟨9, _⟩ => ⟨S16x3x64x64x1, .f32⟩
  | .hbm, ⟨10, _⟩ => ⟨S16x3x64x64, .f32⟩
  | .hbm, ⟨11, _⟩ => ⟨S16x3x64x64, .f32⟩
  | .hbm, ⟨12, _⟩ => ⟨S16x3x64x64, .f32⟩
  | .hbm, ⟨13, _⟩ => ⟨S_, .f32⟩
  | .hbm, ⟨14, _⟩ => ⟨S16x3x64x64, .f32⟩
  | .hbm, ⟨15, _⟩ => ⟨S16x3x64x64, .f32⟩
  | .hbm, ⟨16, _⟩ => ⟨S_, .f32⟩
  | .hbm, ⟨17, _⟩ => ⟨S16x3x64x64, .f32⟩
  | .hbm, ⟨18, _⟩ => ⟨S16x3x64x64, .f32⟩
  | .hbm, ⟨19, _⟩ => ⟨S16x3x64x64x1, .f32⟩
  | .hbm, ⟨20, _⟩ => ⟨S16x3x64x64, .f32⟩
  | .hbm, ⟨21, _⟩ => ⟨S16x3x64x64, .f32⟩
  | .hbm, ⟨22, _⟩ => ⟨S16x3x64x64, .f32⟩
  | .hbm, ⟨23, _⟩ => ⟨S_, .f32⟩
  | .hbm, ⟨24, _⟩ => ⟨S16x3x64x64, .f32⟩
  | .hbm, ⟨25, _⟩ => ⟨S16x3x64x64, .f32⟩
  | .hbm, ⟨26, _⟩ => ⟨S_, .f32⟩
  | .hbm, ⟨27, _⟩ => ⟨S16x3x64x64, .f32⟩
  | .hbm, ⟨28, _⟩ => ⟨S16x3x64x64, .f32⟩
  | .hbm, ⟨29, _⟩ => ⟨S16x3x64x64x1, .f32⟩
  | .hbm, ⟨30, _⟩ => ⟨S16x3x64x64, .f32⟩
  | .hbm, ⟨31, _⟩ => ⟨S16x3x64x64x1, .f32⟩
  | .hbm, ⟨32, _⟩ => ⟨S16x3x64x64, .f32⟩
  | .hbm, ⟨33, _⟩ => ⟨S16x3x64x64x1, .f32⟩
  | .hbm, ⟨34, _⟩ => ⟨S16x3x64x64, .f32⟩
  | .hbm, ⟨35, _⟩ => ⟨S16x3x64x64, .f32⟩
  | .hbm, ⟨36, _⟩ => ⟨S16x3x64x64, .f32⟩
  | .hbm, ⟨37, _⟩ => ⟨S_, .f32⟩
  | .hbm, ⟨38, _⟩ => ⟨S16x3x64x64, .f32⟩
  | .hbm, ⟨39, _⟩ => ⟨S16x3x64x64, .f32⟩
  | .hbm, ⟨40, _⟩ => ⟨S_, .f32⟩
  | .hbm, ⟨41, _⟩ => ⟨S16x3x64x64, .f32⟩
  | .hbm, ⟨42, _⟩ => ⟨S16x3x64x64, .f32⟩
  | .hbm, ⟨43, _⟩ => ⟨S16x3x64x64x80, .f32⟩
  | .hbm, ⟨44, _⟩ => ⟨S16x3x64x64x80, .f32⟩
  | .hbm, ⟨45, _⟩ => ⟨S16x3x64x64x80, .f32⟩
  | .hbm, ⟨46, _⟩ => ⟨S_, .f32⟩
  | .hbm, ⟨47, _⟩ => ⟨S16x3x64x64x80, .f32⟩
  | .hbm, ⟨48, _⟩ => ⟨S16x3x64x64x80, .f32⟩
  | .hbm, ⟨49, _⟩ => ⟨S_, .f32⟩
  | .hbm, ⟨50, _⟩ => ⟨S16x3x64x64x80, .f32⟩
  | .hbm, ⟨51, _⟩ => ⟨S16x3x64x64x80, .f32⟩
  | .hbm, ⟨52, _⟩ => ⟨S64, .f32⟩
  | .hbm, ⟨53, _⟩ => ⟨S1x1x1x64, .f32⟩
  | .hbm, ⟨54, _⟩ => ⟨S16x3x64x64, .f32⟩
  | .hbm, ⟨55, _⟩ => ⟨S64, .f32⟩
  | .hbm, ⟨56, _⟩ => ⟨S1x1x64x1, .f32⟩
  | .hbm, ⟨57, _⟩ => ⟨S16x3x64x64, .f32⟩
  | .hbm, ⟨58, _⟩ => ⟨S3x1, .f32⟩
  | .hbm, ⟨59, _⟩ => ⟨S3, .f32⟩
  | .hbm, ⟨60, _⟩ => ⟨S1x3x1x1, .f32⟩
  | .hbm, ⟨61, _⟩ => ⟨S3x1, .f32⟩
  | .hbm, ⟨62, _⟩ => ⟨S3, .f32⟩
  | .hbm, ⟨63, _⟩ => ⟨S1x3x1x1, .f32⟩
  | .hbm, ⟨64, _⟩ => ⟨S16x3x64x64, .f32⟩
  | .hbm, ⟨65, _⟩ => ⟨S16x3x64x64, .f32⟩
  | .hbm, ⟨66, _⟩ => ⟨S16x3x64x64, .f32⟩
  | .hbm, ⟨67, _⟩ => ⟨S16x3x64x64, .f32⟩
  | .hbm, ⟨68, _⟩ => ⟨S16x3x64x64, .f32⟩
  | .hbm, ⟨69, _⟩ => ⟨S16x3x64x64, .f32⟩
  | .hbm, ⟨70, _⟩ => ⟨S16x3x64x64, .f32⟩
  | .hbm, ⟨71, _⟩ => ⟨S16x3x64x64, .f32⟩
  | .hbm, ⟨72, _⟩ => ⟨S16x3x64x64x1, .f32⟩
  | .hbm, ⟨73, _⟩ => ⟨S16x3x64x64x1, .f32⟩
  | .hbm, ⟨74, _⟩ => ⟨S16x3x64x64x1, .f32⟩
  | .hbm, ⟨75, _⟩ => ⟨S16x3x64x64x1, .f32⟩
  | .hbm, ⟨76, _⟩ => ⟨S16x3x64x64x4, .f32⟩
  | .hbm, ⟨77, _⟩ => ⟨S16x12288x4, .f32⟩
  | .hbm, ⟨78, _⟩ => ⟨S1x1x4, .f32⟩
  | .hbm, ⟨79, _⟩ => ⟨S16x12288x4, .f32⟩
  | .hbm, ⟨80, _⟩ => ⟨S16x12288x4, .f32⟩
  | .hbm, ⟨81, _⟩ => ⟨S16x12288x1, .f32⟩
  | .hbm, ⟨82, _⟩ => ⟨S16x12288x80, .f32⟩
  | .hbm, ⟨83, _⟩ => ⟨S16x12288x85, .f32⟩
  | _, _ => ⟨S16x255x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_6 : Ref sig .tc := ⟨.hbm, 37, rfl⟩
abbrev main_v29 : Ref sig .tc := ⟨.hbm, 38, rfl⟩
abbrev main_v30 : Ref sig .tc := ⟨.hbm, 39, rfl⟩
abbrev main_cst_7 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_8 : Ref sig .tc := ⟨.hbm, 46, rfl⟩
abbrev main_v36 : Ref sig .tc := ⟨.hbm, 47, rfl⟩
abbrev main_v37 : Ref sig .tc := ⟨.hbm, 48, rfl⟩
abbrev main_cst_9 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩

abbrev nD : Nat := 1
abbrev τ : Topo := Topo.v7x

variable {F : FTy → Type} [FloatOps F]
-- ==== Proof.Decode.lean ====
/-
  The mathematics of the detection head's decoding, one number at a time: what the attribute `k` of anchor `a` becomes
  at the grid cell in row `gy` and column `gx`, as a function on the extended reals. Attribute 0 and 1 are the centre of
  the box, 2 and 3 its width and height, 4 the confidence and the other 80 the class scores.
-/
module

public import Idealize.ShloMosaic.Lib.Pointwise

@[expose] public section

noncomputable section

namespace Cert.Decode

open Idealize.ShloMosaic

/-- The stride of the grid: 512 pixels over 64 cells. -/
def stride : EReal := ((8 : ℝ) : EReal)

/-- The widths of the three anchors, in pixels. -/
def anchorW (a : Fin 3) : EReal := ((![(10 : ℝ), 16, 33] a : ℝ) : EReal)

/-- The heights of the three anchors, in pixels. -/
def anchorH (a : Fin 3) : EReal := ((![(13 : ℝ), 30, 23] a : ℝ) : EReal)

/-- The decoded attribute `k` of anchor `a` at row `gy` and column `gx` of the grid, from the raw prediction `v`. -/
def decode (a : Fin 3) (k : Fin 85) (gy gx : Fin 64) (v : EReal) : EReal :=
  if k.val = 0 then (Ideal.logistic v + ((gx.val : ℝ) : EReal)) * stride
  else if k.val = 1 then (Ideal.logistic v + ((gy.val : ℝ) : EReal)) * stride
  else if k.val = 2 then Ideal.exp v * anchorW a
  else if k.val = 3 then Ideal.exp v * anchorH a
  else Ideal.logistic v

/-! The decoding of each attribute by itself. -/

theorem decode_x (a : Fin 3) (gy gx : Fin 64) (v : EReal) :
    decode a 0 gy gx v = (Ideal.logistic v + ((gx.val : ℝ) : EReal)) * stride := rfl
theorem decode_y (a : Fin 3) (gy gx : Fin 64) (v : EReal) :
    decode a 1 gy gx v = (Ideal.logistic v + ((gy.val : ℝ) : EReal)) * stride := rfl
theorem decode_w (a : Fin 3) (gy gx : Fin 64) (v : EReal) : decode a 2 gy gx v = Ideal.exp v * anchorW a := rfl
theorem decode_h (a : Fin 3) (gy gx : Fin 64) (v : EReal) : decode a 3 gy gx v = Ideal.exp v * anchorH a := rfl
theorem decode_score (a : Fin 3) (j : Fin 81) (gy gx : Fin 64) (v : EReal) :
    decode a ⟨4 + j.val, by omega⟩ gy gx v = Ideal.logistic v := by
  unfold decode
  rw [if_neg (by dsimp only; omega), if_neg (by dsimp only; omega), if_neg (by dsimp only; omega), if_neg (by dsimp only; omega)]

/-- The attributes one by one: the four of the box, and the confidence and class scores together. -/
theorem attr_cases (k : Fin 85) :
    k = 0 ∨ k = 1 ∨ k = 2 ∨ k = 3 ∨ ∃ j : Fin 81, k = ⟨4 + j.val, by omega⟩ := by
  by_cases h : k.val < 4
  · have : k.val = 0 ∨ k.val = 1 ∨ k.val = 2 ∨ k.val = 3 := by omega
    rcases this with h | h | h | h
    · exact .inl (Fin.ext h)
    · exact .inr (.inl (Fin.ext h))
    · exact .inr (.inr (.inl (Fin.ext h)))
    · exact .inr (.inr (.inr (.inl (Fin.ext h))))
  · refine .inr (.inr (.inr (.inr ⟨⟨k.val - 4, by omega⟩, Fin.ext ?_⟩)))
    show k.val = 4 + (k.val - 4)
    omega

/-! ## The words of the programs' constants -/

theorem word_8 : Ideal.ofBits .f32 0x41000000#32 = stride := by
  simp [stride, Ideal.ofBits, Ideal.ieee, -EReal.coe_mul]; norm_num
theorem word_10 : Ideal.ofBits .f32 0x41200000#32 = anchorW 0 := by
  simp [anchorW, Ideal.ofBits, Ideal.ieee, -EReal.coe_mul]; norm_num
theorem word_16 : Ideal.ofBits .f32 0x41800000#32 = anchorW 1 := by
  simp [anchorW, Ideal.ofBits, Ideal.ieee, -EReal.coe_mul]; norm_num
theorem word_33 : Ideal.ofBits .f32 0x42040000#32 = anchorW 2 := by
  simp [anchorW, Ideal.ofBits, Ideal.ieee, -EReal.coe_mul]; norm_num
theorem word_13 : Ideal.ofBits .f32 0x41500000#32 = anchorH 0 := by
  simp [anchorH, Ideal.ofBits, Ideal.ieee, -EReal.coe_mul]; norm_num
theorem word_30 : Ideal.ofBits .f32 0x41F00000#32 = anchorH 1 := by
  simp [anchorH, Ideal.ofBits, Ideal.ieee, -EReal.coe_mul]; norm_num
theorem word_23 : Ideal.ofBits .f32 0x41B80000#32 = anchorH 2 := by
  simp [anchorH, Ideal.ofBits, Ideal.ieee, -EReal.coe_mul]; norm_num

/-- A position on an axis of 64, counted in 32-bit words and read as a signed integer, is that position. -/
theorem toInt_position (g : Fin 64) : (((BitVec.ofNat 32 g.val).toInt : ℝ) : EReal) = ((g.val : ℝ) : EReal) := by
  have h : ∀ g : Fin 64, (BitVec.ofNat 32 g.val).toInt = (g.val : ℤ) := by decide
  rw [h g, Int.cast_natCast]

/-- Scaling an anchor down to the grid and the decoded size back up to pixels leaves the anchor: for every extended
    real `e` and real `w`, `e · (w / 8) · 8 = e · w`. -/
theorem scaled_anchor (e : EReal) (w : ℝ) : e * Ideal.div (w : EReal) stride * stride = e * (w : EReal) := by
  have h8 : stride ≠ 0 := by unfold stride; exact_mod_cast (by norm_num : (8 : ℝ) ≠ 0)
  rw [Ideal.div, if_neg h8, mul_assoc]
  congr 1
  unfold stride
  rw [← EReal.coe_inv, ← EReal.coe_mul, ← EReal.coe_mul]
  congr 1
  ring

/-- Scaling down and back up leaves the width of an anchor. -/
theorem scaled_anchorW (e : EReal) (a : Fin 3) : e * Ideal.div (anchorW a) stride * stride = e * anchorW a :=
  scaled_anchor e _

/-- Scaling down and back up leaves the height of an anchor. -/
theorem scaled_anchorH (e : EReal) (a : Fin 3) : e * Ideal.div (anchorH a) stride * stride = e * anchorH a :=
  scaled_anchor e _

/-! ## The result's rows and the prediction's channels -/

/-- The anchor of row `r` of the result: the rows run over the anchors, and for each over the grid's 64 × 64 cells. -/
def anchor (r : Fin 12288) : Fin 3 := ⟨r.val / 4096, by omega⟩

/-- The grid row of row `r` of the result. -/
def cellRow (r : Fin 12288) : Fin 64 := ⟨r.val / 64 % 64, by omega⟩

/-- The grid column of row `r` of the result. -/
def cellCol (r : Fin 12288) : Fin 64 := ⟨r.val % 64, by omega⟩

/-- The channel of the prediction that holds attribute `k` of anchor `a`. -/
def channel (a : Fin 3) (k : Fin 85) : Fin 255 := ⟨85 * a.val + k.val, by omega⟩

end Cert.Decode

end
-- ==== Proof.Block.lean ====
/-
  What the kernel's body stores at one grid point, read at an index: row `r`, attribute `k` of the stored block is the
  decoded attribute of the input block at the anchor and the grid cell of that row.
-/
module

public import proofs.«01_k».proof.Proof.Decode
public import proofs.«01_k».proof.Proof.Gen.KernelIdeal.Skeleton
public import Idealize.ShloMosaic.Lib.Pipeline.Value

@[expose] public section

set_option maxRecDepth 16384

noncomputable section

namespace Cert.KernelIdeal.Block

open Idealize.ShloMosaic Idealize.ShloMosaic.TcCoe Idealize.SL.Sem
open Cert.KernelIdeal Cert.KernelIdeal.Gen Cert.Decode

/-- The block that the body stores, as a function of the block that it loads. -/
def stored (x : Vec Ideal S1x255x64x64 .f32) : FVec Ideal S1x12288x85 .f32 :=
  k0_pay1 (k0_pay2 x) (k0_pay3 x) (k0_pay5 (F := Ideal)) (k0_pay6 x) (k0_pay7 x) (k0_pay8 x) (k0_pay9 x) (k0_pay10 x) (k0_pay11 x)
    (k0_pay12 x) (k0_pay13 x) (k0_pay14 x) (k0_pay15 x) (k0_pay16 x) (k0_pay17 x)

/-- The row of y coordinates of the third anchor, which the body computes beside the store. -/
def y2 (x : Vec Ideal S1x255x64x64 .f32) : FVec Ideal S1x64x64 .f32 :=
  mulf (addf (k0_pay17 x) (k0_pay5 (F := Ideal))) (broadcast S1x64x64 (Scalar.ofBits .f32 0x41000000#32 : Ideal .f32))

/-- The row of widths of the third anchor. -/
def w2 (x : Vec Ideal S1x255x64x64 .f32) : FVec Ideal S1x64x64 .f32 :=
  mulf (exp (extractStridedSlice S1x64x64 ![172, 0, 0] (k0_pay2 x) slices_S255x64x64_o172_0_0_S1x64x64))
    (broadcast S1x64x64 (Scalar.ofBits .f32 0x42040000#32 : Ideal .f32))

/-- The row of heights of the third anchor. -/
def h2 (x : Vec Ideal S1x255x64x64 .f32) : FVec Ideal S1x64x64 .f32 :=
  mulf (exp (extractStridedSlice S1x64x64 ![173, 0, 0] (k0_pay2 x) slices_S255x64x64_o173_0_0_S1x64x64))
    (broadcast S1x64x64 (Scalar.ofBits .f32 0x41B80000#32 : Ideal .f32))

/-- The confidence and the class scores of the third anchor. -/
def c2 (x : Vec Ideal S1x255x64x64 .f32) : FVec Ideal S81x64x64 .f32 :=
  extractStridedSlice S81x64x64 ![174, 0, 0] (k0_pay3 x) slices_S255x64x64_o174_0_0_S81x64x64

/-- The fifteen pieces that the body concatenates, five for each anchor. -/
def pieces (x : Vec Ideal S1x255x64x64 .f32) : List ((s : Shape) × (s.Idx → Ideal .f32)) :=
  [⟨S1x64x64, k0_pay6 x⟩, ⟨S1x64x64, k0_pay7 x⟩, ⟨S1x64x64, k0_pay8 x⟩, ⟨S1x64x64, k0_pay9 x⟩, ⟨S81x64x64, k0_pay10 x⟩,
   ⟨S1x64x64, k0_pay11 x⟩, ⟨S1x64x64, k0_pay12 x⟩, ⟨S1x64x64, k0_pay13 x⟩, ⟨S1x64x64, k0_pay14 x⟩, ⟨S81x64x64, k0_pay15 x⟩,
   ⟨S1x64x64, k0_pay16 x⟩, ⟨S1x64x64, y2 x⟩, ⟨S1x64x64, w2 x⟩, ⟨S1x64x64, h2 x⟩, ⟨S81x64x64, c2 x⟩]

/-- The decoded channels before they are laid out as rows. -/
def cells (x : Vec Ideal S1x255x64x64 .f32) : FVec Ideal S255x64x64 .f32 :=
  concatenate S255x64x64 0 (pieces x) concatenates_S1x64x64_S1x64x64_S1x64x64_S1x64x64_S81x64x64_S1x64x64_S1x64x64_S1x64x64_S1x64x64_S81x64x64_S1x64x64_S1x64x64_S1x64x64_S1x64x64_S81x64x64_S255x64x64_d0

/-- The layout of the store: row `r` and attribute `k` come from the channel of that attribute of the row's anchor, at
    the row's grid cell. -/
theorem stored_layout (x : Vec Ideal S1x255x64x64 .f32) (r : Fin 12288) (k : Fin 85) :
    stored x (ix3 0 r k) = cells x (ix3 (channel (anchor r) k) (cellRow r) (cellCol r)) := by
  show shapeCast S1x12288x85 (shapeCast S12288x85 (transpose S3x64x64x85 [0, 2, 3, 1]
    (shapeCast S3x85x64x64 (cells x) shapeCasts_S255x64x64_S3x85x64x64) transposes_S3x85x64x64_p0_2_3_1_S3x64x64x85)
    shapeCasts_S3x64x64x85_S12288x85) shapeCasts_S12288x85_S1x12288x85 (ix3 0 r k) = _
  generalize cells x = y
  pointwise
  congr 2
  apply Fin.ext
  show r.val / 4096 * 85 + k.val = 85 * (r.val / 4096) + k.val
  omega

end Cert.KernelIdeal.Block

end
-- ==== Proof.Cells.lean ====
/-
  The channels that the body concatenates, read at an index: attribute `k` of anchor `a` at a grid cell is the decoded
  attribute of the raw prediction there. One fact for each kind of row, at any channel, then the fifteen pieces.
-/
module

public import proofs.«01_k».proof.Proof.Block
public import Idealize.ShloMosaic.Lib.Pipeline.Value

@[expose] public section

set_option maxRecDepth 16384

noncomputable section

namespace Cert.KernelIdeal.Block

open Idealize.ShloMosaic Idealize.ShloMosaic.TcCoe Idealize.SL.Sem
open Cert.KernelIdeal Cert.KernelIdeal.Gen Cert.Decode

/-- The number of channels of each piece. -/
def heights : List Nat := [1, 1, 1, 1, 81, 1, 1, 1, 1, 81, 1, 1, 1, 1, 81]

/-- The pieces have these numbers of channels. -/
theorem pieces_heights (x : Vec Ideal S1x255x64x64 .f32) :
    ((pieces x).map (·.1)).map (fun s => if h : s.rank = 3 then s.size ((0 : Fin 3).cast h.symm) else 0) = heights := rfl

/-- Piece `p` of the concatenation, which starts at channel `pre`. -/
theorem cells_piece (x : Vec Ideal S1x255x64x64 .f32) {n : Nat} (p : Nat) (hp : p < 15)
    (y : (⟨3, ![n, 64, 64]⟩ : Shape).Idx → Ideal .f32) (hy : (pieces x)[p] = ⟨⟨3, ![n, 64, 64]⟩, y⟩) (pre : Nat)
    (hpre : (heights.take p).sum = pre)
    (i : Fin n) (c : Fin 255) (hc : pre + i.val = c.val) (gy gx : Fin 64) :
    cells x (ix3 c gy gx) = y (ix3 i gy gx) := by
  unfold cells
  refine concatenate_apply_piece 0 (pieces x) _ (ix3 c gy gx) p hp _ y hy rfl pre ?_ (ix3 i gy gx) ?_ hc
  · rw [List.map_take, List.map_take]
    exact (congrArg (fun l => (l.take p).sum) (pieces_heights x)).trans hpre
  intro b hb
  match b with
  | ⟨0, _⟩ => exact absurd rfl hb
  | ⟨1, _⟩ => rfl
  | ⟨2, _⟩ => rfl

/-- A row of x coordinates, sliced out at channel `o`: shifted by the grid column and scaled by the stride. -/
theorem x_row (x : Vec Ideal S1x255x64x64 .f32) (o : Nat) (ho : o < 255) (hs : S255x64x64.Slices ![o, 0, 0] S1x64x64)
    (gy gx : Fin 64) :
    mulf (addf (extractStridedSlice S1x64x64 ![o, 0, 0] (k0_pay3 x) hs) (k0_pay4 (F := Ideal)))
        (broadcast S1x64x64 (Scalar.ofBits .f32 0x41000000#32 : Ideal .f32)) (ix3 0 gy gx)
      = (Ideal.logistic (x (ix4 0 ⟨o, ho⟩ gy gx)) + ((gx.val : ℝ) : EReal)) * stride := by
  rw [← word_8, ← toInt_position gx]
  pointwise [k0_pay4, k0_pay3, k0_pay2]
  rfl

/-- A row of y coordinates, sliced out at channel `o`: shifted by the grid row and scaled by the stride. -/
theorem y_row (x : Vec Ideal S1x255x64x64 .f32) (o : Nat) (ho : o < 255) (hs : S255x64x64.Slices ![o, 0, 0] S1x64x64)
    (gy gx : Fin 64) :
    mulf (addf (extractStridedSlice S1x64x64 ![o, 0, 0] (k0_pay3 x) hs) (k0_pay5 (F := Ideal)))
        (broadcast S1x64x64 (Scalar.ofBits .f32 0x41000000#32 : Ideal .f32)) (ix3 0 gy gx)
      = (Ideal.logistic (x (ix4 0 ⟨o, ho⟩ gy gx)) + ((gy.val : ℝ) : EReal)) * stride := by
  rw [← word_8, ← toInt_position gy]
  pointwise [k0_pay5, k0_pay3, k0_pay2]
  rfl

/-- A row of sizes, sliced out at channel `o`: the exponential times the anchor, which the body holds as the word `b`. -/
theorem size_row (x : Vec Ideal S1x255x64x64 .f32) (o : Nat) (ho : o < 255) (hs : S255x64x64.Slices ![o, 0, 0] S1x64x64)
    (b : BitVec 32) (w : EReal) (hb : Ideal.ofBits .f32 b = w) (gy gx : Fin 64) :
    mulf (exp (extractStridedSlice S1x64x64 ![o, 0, 0] (k0_pay2 x) hs))
        (broadcast S1x64x64 (Scalar.ofBits .f32 b : Ideal .f32)) (ix3 0 gy gx)
      = Ideal.exp (x (ix4 0 ⟨o, ho⟩ gy gx)) * w := by
  rw [← hb]
  pointwise [k0_pay2]

/-- The confidence and the class scores of an anchor, sliced out from channel `o`. -/
theorem score_rows (x : Vec Ideal S1x255x64x64 .f32) (o : Nat) (ho : o + 80 < 255)
    (hs : S255x64x64.Slices ![o, 0, 0] S81x64x64) (j : Fin 81) (gy gx : Fin 64) :
    extractStridedSlice S81x64x64 ![o, 0, 0] (k0_pay3 x) hs (ix3 j gy gx)
      = Ideal.logistic (x (ix4 0 ⟨o + j.val, by omega⟩ gy gx)) := by
  pointwise [k0_pay3, k0_pay2]

/-- The x coordinate of every anchor. -/
theorem cells_x (x : Vec Ideal S1x255x64x64 .f32) (a : Fin 3) (gy gx : Fin 64) :
    cells x (ix3 (channel a 0) gy gx) = decode a 0 gy gx (x (ix4 0 (channel a 0) gy gx)) := by
  rw [decode_x]
  match a with
  | 0 =>
    exact (cells_piece (n := 1) x 0 (by decide) (k0_pay6 x) rfl 0 (by decide) 0 (channel 0 0) rfl gy gx).trans
      (x_row x 0 (by decide) slices_S255x64x64_o0_0_0_S1x64x64 gy gx)
  | 1 =>
    exact (cells_piece (n := 1) x 5 (by decide) (k0_pay11 x) rfl 85 (by decide) 0 (channel 1 0) rfl gy gx).trans
      (x_row x 85 (by decide) slices_S255x64x64_o85_0_0_S1x64x64 gy gx)
  | 2 =>
    exact (cells_piece (n := 1) x 10 (by decide) (k0_pay16 x) rfl 170 (by decide) 0 (channel 2 0) rfl gy gx).trans
      (x_row x 170 (by decide) slices_S255x64x64_o170_0_0_S1x64x64 gy gx)

/-- The y coordinate of every anchor. -/
theorem cells_y (x : Vec Ideal S1x255x64x64 .f32) (a : Fin 3) (gy gx : Fin 64) :
    cells x (ix3 (channel a 1) gy gx) = decode a 1 gy gx (x (ix4 0 (channel a 1) gy gx)) := by
  rw [decode_y]
  match a with
  | 0 =>
    exact (cells_piece (n := 1) x 1 (by decide) (k0_pay7 x) rfl 1 (by decide) 0 (channel 0 1) rfl gy gx).trans
      (y_row x 1 (by decide) slices_S255x64x64_o1_0_0_S1x64x64 gy gx)
  | 1 =>
    exact (cells_piece (n := 1) x 6 (by decide) (k0_pay12 x) rfl 86 (by decide) 0 (channel 1 1) rfl gy gx).trans
      (y_row x 86 (by decide) slices_S255x64x64_o86_0_0_S1x64x64 gy gx)
  | 2 =>
    exact (cells_piece (n := 1) x 11 (by decide) (y2 x) rfl 171 (by decide) 0 (channel 2 1) rfl gy gx).trans
      (y_row x 171 (by decide) slices_S255x64x64_o171_0_0_S1x64x64 gy gx)

/-- The width of every anchor. -/
theorem cells_w (x : Vec Ideal S1x255x64x64 .f32) (a : Fin 3) (gy gx : Fin 64) :
    cells x (ix3 (channel a 2) gy gx) = decode a 2 gy gx (x (ix4 0 (channel a 2) gy gx)) := by
  rw [decode_w]
  match a with
  | 0 =>
    exact (cells_piece (n := 1) x 2 (by decide) (k0_pay8 x) rfl 2 (by decide) 0 (channel 0 2) rfl gy gx).trans
      (size_row x 2 (by decide) slices_S255x64x64_o2_0_0_S1x64x64 0x41200000#32 _ word_10 gy gx)
  | 1 =>
    exact (cells_piece (n := 1) x 7 (by decide) (k0_pay13 x) rfl 87 (by decide) 0 (channel 1 2) rfl gy gx).trans
      (size_row x 87 (by decide) slices_S255x64x64_o87_0_0_S1x64x64 0x41800000#32 _ word_16 gy gx)
  | 2 =>
    exact (cells_piece (n := 1) x 12 (by decide) (w2 x) rfl 172 (by decide) 0 (channel 2 2) rfl gy gx).trans
      (size_row x 172 (by decide) slices_S255x64x64_o172_0_0_S1x64x64 0x42040000#32 _ word_33 gy gx)

/-- The height of every anchor. -/
theorem cells_h (x : Vec Ideal S1x255x64x64 .f32) (a : Fin 3) (gy gx : Fin 64) :
    cells x (ix3 (channel a 3) gy gx) = decode a 3 gy gx (x (ix4 0 (channel a 3) gy gx)) := by
  rw [decode_h]
  match a with
  | 0 =>
    exact (cells_piece (n := 1) x 3 (by decide) (k0_pay9 x) rfl 3 (by decide) 0 (channel 0 3) rfl gy gx).trans
      (size_row x 3 (by decide) slices_S255x64x64_o3_0_0_S1x64x64 0x41500000#32 _ word_13 gy gx)
  | 1 =>
    exact (cells_piece (n := 1) x 8 (by decide) (k0_pay14 x) rfl 88 (by decide) 0 (channel 1 3) rfl gy gx).trans
      (size_row x 88 (by decide) slices_S255x64x64_o88_0_0_S1x64x64 0x41F00000#32 _ word_30 gy gx)
  | 2 =>
    exact (cells_piece (n := 1) x 13 (by decide) (h2 x) rfl 173 (by decide) 0 (channel 2 3) rfl gy gx).trans
      (size_row x 173 (by decide) slices_S255x64x64_o173_0_0_S1x64x64 0x41B80000#32 _ word_23 gy gx)

/-- The confidence and the class scores of every anchor. -/
theorem cells_score (x : Vec Ideal S1x255x64x64 .f32) (a : Fin 3) (j : Fin 81) (gy gx : Fin 64) :
    cells x (ix3 (channel a ⟨4 + j.val, by omega⟩) gy gx) = decode a ⟨4 + j.val, by omega⟩ gy gx (x (ix4 0 (channel a ⟨4 + j.val, by omega⟩) gy gx)) := by
  rw [decode_score]
  match a with
  | 0 =>
    exact (cells_piece (n := 81) x 4 (by decide) (k0_pay10 x) rfl 4 (by decide) j (channel 0 ⟨4 + j.val, by omega⟩) (by simp only [channel]; omega) gy gx).trans
      ((score_rows x 4 (by decide) slices_S255x64x64_o4_0_0_S81x64x64 j gy gx).trans (by congr 4; simp only [channel]; omega))
  | 1 =>
    exact (cells_piece (n := 81) x 9 (by decide) (k0_pay15 x) rfl 89 (by decide) j (channel 1 ⟨4 + j.val, by omega⟩) (by simp only [channel]; omega) gy gx).trans
      ((score_rows x 89 (by decide) slices_S255x64x64_o89_0_0_S81x64x64 j gy gx).trans (by congr 4; simp only [channel]; omega))
  | 2 =>
    exact (cells_piece (n := 81) x 14 (by decide) (c2 x) rfl 174 (by decide) j (channel 2 ⟨4 + j.val, by omega⟩) (by simp only [channel]; omega) gy gx).trans
      ((score_rows x 174 (by decide) slices_S255x64x64_o174_0_0_S81x64x64 j gy gx).trans (by congr 4; simp only [channel]; omega))

/-- Every channel is decoded: attribute `k` of anchor `a` at a grid cell, from the raw prediction there. -/
theorem cells_apply (x : Vec Ideal S1x255x64x64 .f32) (a : Fin 3) (k : Fin 85) (gy gx : Fin 64) :
    cells x (ix3 (channel a k) gy gx) = decode a k gy gx (x (ix4 0 (channel a k) gy gx)) := by
  rcases attr_cases k with rfl | rfl | rfl | rfl | ⟨j, rfl⟩
  · exact cells_x x a gy gx
  · exact cells_y x a gy gx
  · exact cells_w x a gy gx
  · exact cells_h x a gy gx
  · exact cells_score x a j gy gx

/-- The stored block at an index: row `r`, attribute `k` is the decoded attribute of the loaded block. -/
theorem stored_apply (x : Vec Ideal S1x255x64x64 .f32) (r : Fin 12288) (k : Fin 85) :
    stored x (ix3 0 r k)
      = decode (anchor r) k (cellRow r) (cellCol r) (x (ix4 0 (channel (anchor r) k) (cellRow r) (cellCol r))) :=
  (stored_layout x r k).trans (cells_apply x _ k _ _)

end Cert.KernelIdeal.Block

end
-- ==== Proof.Array.lean ====
/-
  The kernel's result array: each grid point decodes one image, so index `(b, r, k)` of the array is the decoded attribute
  `k` of row `r` of image `b`, whatever the grid point that wrote it.
-/
module

public import proofs.«01_k».proof.Proof.Cells
public import proofs.«01_k».proof.Proof.Gen.KernelIdeal.Value
public import Idealize.ShloMosaic.Lib.Pipeline.ValueKit

@[expose] public section

set_option maxRecDepth 16384

noncomputable section

namespace Cert.KernelIdeal.Array

open Idealize.ShloMosaic Idealize.ShloMosaic.TcCoe Idealize.SL.Sem
open Cert.KernelIdeal Cert.KernelIdeal.Gen Cert.KernelIdeal.Block Cert.Decode

variable (m : (ℓ : Loc nD τ sig) → Buf (Elt Ideal) ℓ) (ρ : Dev nD → PrngReg)

/-- The decoded predictions of all images: row `r`, attribute `k` of image `b`. -/
def decoded (x : S16x255x64x64.Idx → EReal) : S16x12288x85.Idx → EReal := fun i =>
  decode (anchor (i 1)) (i 2) (cellRow (i 1)) (cellCol (i 1))
    (x (ix4 (i 0) (channel (anchor (i 1)) (i 2)) (cellRow (i 1)) (cellCol (i 1))))

/-- Both windows move along the images, one image for each grid point. -/
theorem idx : ∀ t : Fin cfg0.N, win0_0.index t = ![t.val, 0, 0, 0] ∧ win0_1.index t = ![t.val, 0, 0] :=
  (by decide +kernel : ∀ t : Fin grid0.N, win0_0.index t = ![t.val, 0, 0, 0] ∧ win0_1.index t = ![t.val, 0, 0])

/-- The block that grid point `t` loads is image `t`. -/
theorem loaded (c : Dev nD) (t : Fin cfg0.N) (ch : Fin 255) (gy gx : Fin 64) :
    iblk m c 0 t (ix4 0 ch gy gx) = m ((c : Thread nD τ).loc main_arg0) (ix4 ⟨t.val, t.isLt⟩ ch gy gx) := by
  blk_ext [iblk, V, idx t]

/-- The block that grid point `t` stores lies at image `t` of the array. -/
theorem place (t : Fin cfg0.N) (r : Fin 12288) (k : Fin 85) :
    (((View.whole main_v0).slice (win0_1.rect t)).emb (ix3 0 r k : S1x12288x85.Idx) : S16x12288x85.Idx) = ix3 ⟨t.val, t.isLt⟩ r k := by
  blk_ext [idx t]

/-- What grid point `t` stores is image `t` of the decoded predictions. -/
theorem point (c : Dev nD) (t : Fin cfg0.N) (y : S1x12288x85.Idx) :
    stored (iblk m c 0 t) y
      = decoded (m ((c : Thread nD τ).loc main_arg0)) (((View.whole main_v0).slice (win0_1.rect t)).emb y) := by
  idx_vars y
  rw [Subsingleton.elim y0 0, place, stored_apply, loaded]
  rfl

/-- The kernel's result array is the decoded predictions. -/
theorem final (c : Dev nD) : (dats m 0 c).arrAt 1 cfg0.N = decoded (m ((c : Thread nD τ).loc main_arg0)) := by
  refine (dats m 0 c).arrAt_eq_of_covers 1 _ (by decide +kernel) fun t _ y => ?_
  blk_simp
  rw [after0_1]
  frame_out
  exact point m c t y

end Cert.KernelIdeal.Array

end
-- ==== Proof.Whole.lean ====
/-
  The reference read at an index: row `r`, attribute `k` of image `b` is the decoded attribute of the raw prediction at
  the anchor and the grid cell of that row. The reference's intermediate arrays are named first, then each is read.
-/
module

public import proofs.«01_k».proof.Proof.Decode
public import proofs.«01_k».proof.Proof.Gen.ReferenceIdeal.Run
public import Idealize.ShloMosaic.Lib.Pipeline.Value

@[expose] public section

set_option maxRecDepth 16384

noncomputable section

namespace Cert.ReferenceIdeal.Whole

open Idealize.ShloMosaic Idealize.ShloMosaic.TcCoe Idealize.SL.Sem
open Cert.ReferenceIdeal Cert.ReferenceIdeal.Gen Cert.Decode

variable (x : Vec Ideal S16x255x64x64 .f32)

/-- The raw predictions with the attributes of an anchor at a grid cell on the last axis. -/
def preds : FVec Ideal S16x3x64x64x85 .f32 :=
  transpose S16x3x64x64x85 [0, 1, 3, 4, 2] (shapeCast _ x shapeCasts_S16x255x64x64_S16x3x85x64x64)
    transposes_S16x3x85x64x64_S16x3x64x64x85_0_1_3_4_2

/-- One attribute of the raw predictions, sliced out at `o`. -/
def attr (o : Nat) (hs : S16x3x64x64x85.Slices ![0, 0, 0, 0, o] S16x3x64x64x1) : FVec Ideal S16x3x64x64 .f32 :=
  shapeCast _ (extractStridedSlice S16x3x64x64x1 ![0, 0, 0, 0, o] (preds x) hs) shapeCasts_S16x3x64x64x1_S16x3x64x64

/-- The logistic function of an attribute. -/
def squash (v : FVec Ideal S16x3x64x64 .f32) : FVec Ideal S16x3x64x64 .f32 :=
  Host.divf (broadcastInDim S16x3x64x64 ![] bcast_S_S16x3x64x64 (constant S_ .f32 0x3F800000#32))
    (addf (broadcastInDim S16x3x64x64 ![] bcast_S_S16x3x64x64 (constant S_ .f32 0x3F800000#32)) (Host.exp (Host.negf v)))

/-- The anchors in units of the grid. -/
def anchors : FVec Ideal S3x2 .f32 :=
  Host.divf (fun i => FloatOps.ofBits .f32 (lit0 (S3x2.rowMajor i)))
    (broadcastInDim S3x2 ![0, 1] bcast_S1x2_S3x2_0_1 (broadcastInDim S1x2 ![1] bcast_S2_S1x2_1 (constant S2 .f32 0x41000000#32)))

/-- The x coordinates in units of the grid. -/
def boxX : FVec Ideal S16x3x64x64x1 .f32 :=
  broadcastInDim S16x3x64x64x1 ![0, 1, 2, 3] bcast_S16x3x64x64_S16x3x64x64x1_0_1_2_3
    (addf (squash (attr x 0 slices_S16x3x64x64x85_S16x3x64x64x1_0_0_0_0_0))
      (broadcastInDim S16x3x64x64 ![0, 1, 2, 3] bcast_S1x1x1x64_S16x3x64x64_0_1_2_3
        (broadcastInDim S1x1x1x64 ![3] bcast_S64_S1x1x1x64_3 (sitofp .f32 (iotaInDim S64 32 0)))))

/-- The y coordinates in units of the grid. -/
def boxY : FVec Ideal S16x3x64x64x1 .f32 :=
  broadcastInDim S16x3x64x64x1 ![0, 1, 2, 3] bcast_S16x3x64x64_S16x3x64x64x1_0_1_2_3
    (addf (squash (attr x 1 slices_S16x3x64x64x85_S16x3x64x64x1_0_0_0_0_1))
      (broadcastInDim S16x3x64x64 ![0, 1, 2, 3] bcast_S1x1x64x1_S16x3x64x64_0_1_2_3
        (broadcastInDim S1x1x64x1 ![2] bcast_S64_S1x1x64x1_2 (sitofp .f32 (iotaInDim S64 32 0)))))

/-- Sizes in units of the grid: the exponential of attribute `o` times the anchors' column `q`. -/
def boxSize (o : Nat) (hs : S16x3x64x64x85.Slices ![0, 0, 0, 0, o] S16x3x64x64x1) (q : Nat) (hq : S3x2.Slices ![0, q] S3x1) :
    FVec Ideal S16x3x64x64x1 .f32 :=
  broadcastInDim S16x3x64x64x1 ![0, 1, 2, 3] bcast_S16x3x64x64_S16x3x64x64x1_0_1_2_3
    (mulf (Host.exp (attr x o hs))
      (broadcastInDim S16x3x64x64 ![0, 1, 2, 3] bcast_S1x3x1x1_S16x3x64x64_0_1_2_3
        (broadcastInDim S1x3x1x1 ![1] bcast_S3_S1x3x1x1_1 (shapeCast _ (extractStridedSlice S3x1 ![0, q] anchors hq) shapeCasts_S3x1_S3))))

/-- The four parts of a box. -/
def boxParts : List ((s : Shape) × (s.Idx → Ideal .f32)) :=
  [⟨S16x3x64x64x1, boxX x⟩, ⟨S16x3x64x64x1, boxY x⟩,
   ⟨S16x3x64x64x1, boxSize x 2 slices_S16x3x64x64x85_S16x3x64x64x1_0_0_0_0_2 0 slices_S3x2_S3x1_0_0⟩,
   ⟨S16x3x64x64x1, boxSize x 3 slices_S16x3x64x64x85_S16x3x64x64x1_0_0_0_0_3 1 slices_S3x2_S3x1_0_1⟩]

/-- The boxes in units of the grid. -/
def gridBoxes : FVec Ideal S16x3x64x64x4 .f32 :=
  concatenate S16x3x64x64x4 4 (boxParts x)
    concatenates_S16x3x64x64x1_S16x3x64x64x1_S16x3x64x64x1_S16x3x64x64x1_S16x3x64x64x4_d4

/-- The boxes, one for each row. -/
def boxes : FVec Ideal S16x12288x4 .f32 :=
  mulf (shapeCast _ (gridBoxes x) shapeCasts_S16x3x64x64x4_S16x12288x4)
    (broadcastInDim S16x12288x4 ![0, 1, 2] bcast_S1x1x4_S16x12288x4_0_1_2
      (broadcastInDim S1x1x4 ![2] bcast_S4_S1x1x4_2 (constant S4 .f32 0x41000000#32)))

/-- The confidences, one for each row. -/
def confidence : FVec Ideal S16x12288x1 .f32 :=
  shapeCast _ (squash (attr x 4 slices_S16x3x64x64x85_S16x3x64x64x1_0_0_0_0_4)) shapeCasts_S16x3x64x64_S16x12288x1

/-- The class scores of each row. -/
def classes : FVec Ideal S16x12288x80 .f32 :=
  shapeCast _ (Host.divf (broadcastInDim S16x3x64x64x80 ![] bcast_S_S16x3x64x64x80 (constant S_ .f32 0x3F800000#32))
    (addf (broadcastInDim S16x3x64x64x80 ![] bcast_S_S16x3x64x64x80 (constant S_ .f32 0x3F800000#32))
      (Host.exp (Host.negf (extractStridedSlice S16x3x64x64x80 ![0, 0, 0, 0, 5] (preds x)
        slices_S16x3x64x64x85_S16x3x64x64x80_0_0_0_0_5))))) shapeCasts_S16x3x64x64x80_S16x12288x80

/-- The three parts of a row. -/
def rowParts : List ((s : Shape) × (s.Idx → Ideal .f32)) :=
  [⟨S16x12288x4, boxes x⟩, ⟨S16x12288x1, confidence x⟩, ⟨S16x12288x80, classes x⟩]

/-- The reference's result. -/
def rows : FVec Ideal S16x12288x85 .f32 :=
  concatenate S16x12288x85 2 (rowParts x) concatenates_S16x12288x4_S16x12288x1_S16x12288x80_S16x12288x85_d2

/-- The run's result array is `rows` of the launched predictions. -/
theorem result_eq (m : (ℓ : Loc nD τ sig) → Buf (Elt Ideal) ℓ) (c : Dev nD) :
    Value.res_out0 m c = rows (m ((c.tc : Thread nD τ).loc main_arg0)) := rfl

/-! ## The intermediate arrays at an index -/

/-- An attribute of the raw predictions. -/
theorem attr_apply (o : Nat) (ho : o < 85) (hs : S16x3x64x64x85.Slices ![0, 0, 0, 0, o] S16x3x64x64x1)
    (b : Fin 16) (a : Fin 3) (gy gx : Fin 64) :
    attr x o hs (ix4 b a gy gx) = x (ix4 b (channel a ⟨o, ho⟩) gy gx) := by
  unfold attr
  pointwise [preds]
  congr 2
  apply Fin.ext
  show a.val * 85 + o = 85 * a.val + o
  omega

/-- The logistic function, written out by the reference. -/
theorem squash_apply (v : FVec Ideal S16x3x64x64 .f32) (b : Fin 16) (a : Fin 3) (gy gx : Fin 64) :
    squash v (ix4 b a gy gx) = Ideal.logistic (v (ix4 b a gy gx)) := by
  unfold squash
  pointwise
  rfl

/-- The anchors' widths in units of the grid. -/
theorem anchors_width (a : Fin 3) : anchors (ix2 a 0) = Ideal.div (anchorW a) stride := by
  unfold anchors
  pointwise
  rw [word_8]
  match a with
  | 0 => exact congrArg (Ideal.div · stride) word_10
  | 1 => exact congrArg (Ideal.div · stride) word_16
  | 2 => exact congrArg (Ideal.div · stride) word_33

/-- The anchors' heights in units of the grid. -/
theorem anchors_height (a : Fin 3) : anchors (ix2 a 1) = Ideal.div (anchorH a) stride := by
  unfold anchors
  pointwise
  rw [word_8]
  match a with
  | 0 => exact congrArg (Ideal.div · stride) word_13
  | 1 => exact congrArg (Ideal.div · stride) word_30
  | 2 => exact congrArg (Ideal.div · stride) word_23

/-- The x coordinate of a box. -/
theorem boxX_apply (b : Fin 16) (a : Fin 3) (gy gx : Fin 64) :
    boxX x (ix5 b a gy gx 0) = Ideal.logistic (x (ix4 b (channel a 0) gy gx)) + ((gx.val : ℝ) : EReal) := by
  unfold boxX
  pointwise
  rw [squash_apply, attr_apply x 0 (by decide), ← toInt_position gx]
  rfl

/-- The y coordinate of a box. -/
theorem boxY_apply (b : Fin 16) (a : Fin 3) (gy gx : Fin 64) :
    boxY x (ix5 b a gy gx 0) = Ideal.logistic (x (ix4 b (channel a 1) gy gx)) + ((gy.val : ℝ) : EReal) := by
  unfold boxY
  pointwise
  rw [squash_apply, attr_apply x 1 (by decide), ← toInt_position gy]
  rfl

/-- A size of a box. -/
theorem boxSize_apply (o : Nat) (ho : o < 85) (hs : S16x3x64x64x85.Slices ![0, 0, 0, 0, o] S16x3x64x64x1) (q : Nat) (hq : q < 2)
    (hqs : S3x2.Slices ![0, q] S3x1) (b : Fin 16) (a : Fin 3) (gy gx : Fin 64) :
    boxSize x o hs q hqs (ix5 b a gy gx 0)
      = Ideal.exp (x (ix4 b (channel a ⟨o, ho⟩) gy gx)) * anchors (ix2 a ⟨q, hq⟩) := by
  unfold boxSize
  pointwise
  rw [attr_apply x o ho]

/-- Part `p` of the boxes. -/
theorem gridBoxes_part (p : Fin 4) (y : FVec Ideal S16x3x64x64x1 .f32)
    (hy : (boxParts x)[p.val]'p.isLt = ⟨S16x3x64x64x1, y⟩) (b : Fin 16) (a : Fin 3) (gy gx : Fin 64) :
    gridBoxes x (ix5 b a gy gx p) = y (ix5 b a gy gx 0) := by
  unfold gridBoxes
  refine concatenate_apply_piece 4 (boxParts x) _ (ix5 b a gy gx p) p.val p.isLt _ y hy rfl p.val ?_ (ix5 b a gy gx 0) ?_ rfl
  · rw [List.map_take, List.map_take]
    exact (by decide : ∀ q : Fin 4, (([1, 1, 1, 1] : List Nat).take q.val).sum = q.val) p
  · intro d hd
    match d with
    | ⟨0, _⟩ => rfl
    | ⟨1, _⟩ => rfl
    | ⟨2, _⟩ => rfl
    | ⟨3, _⟩ => rfl
    | ⟨4, _⟩ => exact absurd rfl hd

/-- The boxes of the rows, from the boxes of the grid. -/
theorem boxes_apply (b : Fin 16) (r : Fin 12288) (p : Fin 4) :
    boxes x (ix3 b r p) = gridBoxes x (ix5 b (anchor r) (cellRow r) (cellCol r) p) * stride := by
  unfold boxes
  rw [← word_8]
  generalize gridBoxes x = g
  pointwise
  rfl

/-- The confidence of a row. -/
theorem confidence_apply (b : Fin 16) (r : Fin 12288) :
    confidence x (ix3 b r 0) = Ideal.logistic (x (ix4 b (channel (anchor r) 4) (cellRow r) (cellCol r))) := by
  unfold confidence
  pointwise
  refine (squash_apply _ b (anchor r) (cellRow r) (cellCol r)).trans ?_
  rw [attr_apply x 4 (by decide)]
  rfl

/-- The class scores of a row. -/
theorem classes_apply (b : Fin 16) (r : Fin 12288) (k : Fin 80) :
    classes x (ix3 b r k)
      = Ideal.logistic (x (ix4 b (channel (anchor r) ⟨5 + k.val, by omega⟩) (cellRow r) (cellCol r))) := by
  have hc : (⟨r.val / 4096 * 85 + (5 + k.val), by omega⟩ : Fin 255) = channel (anchor r) ⟨5 + k.val, by omega⟩ := by
    apply Fin.ext
    show r.val / 4096 * 85 + (5 + k.val) = 85 * (r.val / 4096) + (5 + k.val)
    omega
  unfold classes
  rw [← hc]
  pointwise [preds]
  rfl

/-! ## The result at an index -/

/-- The number of attributes in each part of a row. -/
def widths : List Nat := [4, 1, 80]

/-- Part `p` of the rows, which starts at attribute `pre`. -/
theorem rows_part {n : Nat} (p : Nat) (hp : p < 3) (y : (⟨3, ![16, 12288, n]⟩ : Shape).Idx → Ideal .f32)
    (hy : (rowParts x)[p] = ⟨⟨3, ![16, 12288, n]⟩, y⟩) (pre : Nat) (hpre : (widths.take p).sum = pre)
    (i : Fin n) (k : Fin 85) (hk : pre + i.val = k.val) (b : Fin 16) (r : Fin 12288) :
    rows x (ix3 b r k) = y (ix3 b r i) := by
  unfold rows
  refine concatenate_apply_piece 2 (rowParts x) _ (ix3 b r k) p hp _ y hy rfl pre ?_ (ix3 b r i) ?_ hk
  · rw [List.map_take, List.map_take]
    exact hpre
  · intro d hd
    match d with
    | ⟨0, _⟩ => rfl
    | ⟨1, _⟩ => rfl
    | ⟨2, _⟩ => exact absurd rfl hd

/-- Part `p` of a box in a row. -/
theorem rows_box (p : Fin 4) (y : FVec Ideal S16x3x64x64x1 .f32)
    (hy : (boxParts x)[p.val]'p.isLt = ⟨S16x3x64x64x1, y⟩) (b : Fin 16) (r : Fin 12288) :
    rows x (ix3 b r ⟨p.val, by omega⟩) = y (ix5 b (anchor r) (cellRow r) (cellCol r) 0) * stride := by
  rw [rows_part x 0 (by decide) (boxes x) rfl 0 rfl p ⟨p.val, by omega⟩ (Nat.zero_add _) b r, boxes_apply,
    gridBoxes_part x p y hy]

/-- The reference at an index: row `r`, attribute `k` of image `b` is the decoded attribute of the raw prediction. -/
theorem rows_apply (b : Fin 16) (r : Fin 12288) (k : Fin 85) :
    rows x (ix3 b r k)
      = decode (anchor r) k (cellRow r) (cellCol r) (x (ix4 b (channel (anchor r) k) (cellRow r) (cellCol r))) := by
  rcases attr_cases k with rfl | rfl | rfl | rfl | ⟨j, rfl⟩
  · rw [decode_x, ← boxX_apply]
    exact rows_box x 0 _ rfl b r
  · rw [decode_y, ← boxY_apply]
    exact rows_box x 1 _ rfl b r
  · rw [decode_w, ← scaled_anchorW, ← anchors_width]
    exact (rows_box x 2 _ rfl b r).trans (congrArg (· * stride) (boxSize_apply x 2 (by decide) _ 0 (by decide) _ b _ _ _))
  · rw [decode_h, ← scaled_anchorH, ← anchors_height]
    exact (rows_box x 3 _ rfl b r).trans (congrArg (· * stride) (boxSize_apply x 3 (by decide) _ 1 (by decide) _ b _ _ _))
  · rw [decode_score]
    by_cases hj : j.val = 0
    · obtain rfl : j = 0 := Fin.ext hj
      exact (rows_part x 1 (by decide) (confidence x) rfl 4 rfl 0 _ rfl b r).trans (confidence_apply x b r)
    · have hk : (⟨4 + j.val, by omega⟩ : Fin 85) = ⟨5 + (j.val - 1), by omega⟩ := Fin.ext (by dsimp only; omega)
      rw [hk]
      exact (rows_part x 2 (by decide) (classes x) rfl 5 rfl ⟨j.val - 1, by omega⟩ _ rfl b r).trans (classes_apply x b r _)

end Cert.ReferenceIdeal.Whole

end
-- ==== Proof.lean ====
/-
  The certificate of the detection head: what each claim needs, put together. The kernel's result array and the
  reference's are both the decoded predictions, index by index.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Whole
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference's result is the decoded predictions. -/
theorem reference_decoded (x : Vec Ideal Cert.ReferenceIdeal.S16x255x64x64 .f32) :
    Cert.ReferenceIdeal.Whole.rows x = Cert.KernelIdeal.Array.decoded x := by
  funext i
  idx_vars i
  exact Cert.ReferenceIdeal.Whole.rows_apply x i0 i1 i2

theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ, ?_, trivial, ?_⟩
  · exact fun m ρ _ => (θ_run Cert.ReferenceIdeal.defs _ _).mono
      (fun r h => ⟨fun c => (h c).2, Idealize.ShloMosaic.sem_eq_zero_of_no_sems (by decide) r.2⟩)
      (Cert.ReferenceIdeal.Value.run (F := Ideal) m ρ)
  · intro m ρ m' ρ' _ hagree
    refine ⟨fun c => Cert.KernelIdeal.Array.decoded (m ((c.tc : Thread Cert.KernelIdeal.nD Cert.KernelIdeal.τ).loc Cert.KernelIdeal.main_arg0)), ?_, ?_⟩
    · exact (θ_run Cert.KernelIdeal.defs _ _).mono
        (fun r h c => ⟨(h c).1.trans (Cert.KernelIdeal.Array.final m c), (h c).2⟩) (Cert.KernelIdeal.Value.run_blocks m ρ)
    · refine (θ_run Cert.ReferenceIdeal.defs _ _).mono (fun r h c => ?_) (Cert.ReferenceIdeal.Value.run (F := Ideal) m' ρ')
      refine ⟨((h c).1.trans (Cert.ReferenceIdeal.Whole.result_eq m' c)).trans ((reference_decoded _).trans ?_), (h c).2⟩
      exact congrArg Cert.KernelIdeal.Array.decoded (hagree c)⟩

end Cert.Proof

end
